-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3276800x2 : Shape := ⟨2, ![3276800, 2]⟩
abbrev S2x2 : Shape := ⟨2, ![2, 2]⟩
abbrev S2 : Shape := ⟨1, ![2]⟩
abbrev S25600x128x2 : Shape := ⟨3, ![25600, 128, 2]⟩
abbrev S25600x2x128 : Shape := ⟨3, ![25600, 2, 128]⟩
abbrev S51200x128 : Shape := ⟨2, ![51200, 128]⟩
abbrev S8 : Shape := ⟨1, ![8]⟩
abbrev S_ : Shape := ⟨0, ![]⟩
abbrev S8x1 : Shape := ⟨2, ![8, 1]⟩
abbrev S1x1 : Shape := ⟨2, ![1, 1]⟩
abbrev S8x128 : Shape := ⟨2, ![8, 128]⟩
abbrev S1 : Shape := ⟨1, ![1]⟩
abbrev S25600x128 : Shape := ⟨2, ![25600, 128]⟩
abbrev S3200x8x128 : Shape := ⟨3, ![3200, 8, 128]⟩
abbrev S1x8x128 : Shape := ⟨3, ![1, 8, 128]⟩
abbrev S3200x7x128 : Shape := ⟨3, ![3200, 7, 128]⟩
abbrev S3200x1x128 : Shape := ⟨3, ![3200, 1, 128]⟩

abbrev nBuf : Space → Nat
  | .hbm => 65
  | .vmem => 8
  | .smem => 0
  | _ => 0

abbrev bufTy : (tb : Table) → Fin (tcTables nBuf tb) → BufTy
  | .hbm, ⟨0, _⟩ => ⟨S3276800x2, .f32⟩
  | .hbm, ⟨1, _⟩ => ⟨S2x2, .f32⟩
  | .hbm, ⟨2, _⟩ => ⟨S2, .f32⟩
  | .hbm, ⟨3, _⟩ => ⟨S25600x128x2, .f32⟩
  | .hbm, ⟨4, _⟩ => ⟨S25600x2x128, .f32⟩
  | .hbm, ⟨5, _⟩ => ⟨S51200x128, .f32⟩
  | .hbm, ⟨6, _⟩ => ⟨S8, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S_, .i32⟩
  | .hbm, ⟨22, _⟩ => ⟨S_, .i1⟩
  | .hbm, ⟨23, _⟩ => ⟨S8, .i1⟩
  | .hbm, ⟨24, _⟩ => ⟨S8, .i1⟩
  | .hbm, ⟨25, _⟩ => ⟨S8, .i1⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i1⟩
  | .hbm, ⟨32, _⟩ => ⟨S8x1, .i1⟩
  | .hbm, ⟨33, _⟩ => ⟨S_, .f32⟩
  | .hbm, ⟨34, _⟩ => ⟨S8x1, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S_, .f32⟩
  | .hbm, ⟨39, _⟩ => ⟨S8x1, .f32⟩
  | .hbm, ⟨40, _⟩ => ⟨S8x1, .f32⟩
  | .hbm, ⟨41, _⟩ => ⟨S8x1, .f32⟩
  | .hbm, ⟨42, _⟩ => ⟨S8x128, .f32⟩
  | .hbm, ⟨43, _⟩ => ⟨S1x1, .f32⟩
  | .hbm, ⟨44, _⟩ => ⟨S_, .f32⟩
  | .hbm, ⟨45, _⟩ => ⟨S8x1, .f32⟩
  | .hbm, ⟨46, _⟩ => ⟨S8x1, .f32⟩
  | .hbm, ⟨47, _⟩ => ⟨S8x128, .f32⟩
  | .hbm, ⟨48, _⟩ => ⟨S1x1, .f32⟩
  | .hbm, ⟨49, _⟩ => ⟨S_, .f32⟩
  | .hbm, ⟨50, _⟩ => ⟨S8x1, .f32⟩
  | .hbm, ⟨51, _⟩ => ⟨S8x1, .f32⟩
  | .hbm, ⟨52, _⟩ => ⟨S8x128, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S8x1, .f32⟩
  | .hbm, ⟨58, _⟩ => ⟨S8x1, .f32⟩
  | .hbm, ⟨59, _⟩ => ⟨S8x1, .f32⟩
  | .hbm, ⟨60, _⟩ => ⟨S8x128, .f32⟩
  | .hbm, ⟨61, _⟩ => ⟨S51200x128, .f32⟩
  | .hbm, ⟨62, _⟩ => ⟨S25600x2x128, .f32⟩
  | .hbm, ⟨63, _⟩ => ⟨S25600x128x2, .f32⟩
  | .hbm, ⟨64, _⟩ => ⟨S3276800x2, .f32⟩
  | .local _ .vmem, ⟨0, _⟩ => ⟨S25600x128, .f32⟩
  | .local _ .vmem, ⟨1, _⟩ => ⟨S25600x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S25600x128, .f32⟩
  | .local _ .vmem, ⟨7, _⟩ => ⟨S25600x128, .f32⟩
  | _, _ => ⟨S3276800x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call1_v0 : Ref sig .tc := ⟨.hbm, 39, rfl⟩
abbrev main_call1_v1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_call2_v0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call3_v0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_call4_v0 : Ref sig .tc := ⟨.hbm, 57, rfl⟩
abbrev main_call4_v1 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S25600x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3276800x2 : Shape := ⟨2, ![3276800, 2]⟩
abbrev S2x2 : Shape := ⟨2, ![2, 2]⟩
abbrev S2 : Shape := ⟨1, ![2]⟩
abbrev S1x2 : Shape := ⟨2, ![1, 2]⟩

abbrev nBuf : Space → Nat
  | .hbm => 8
  | .vmem => 0
  | .smem => 0
  | _ => 0

abbrev bufTy : (tb : Table) → Fin (tcTables nBuf tb) → BufTy
  | .hbm, ⟨0, _⟩ => ⟨S3276800x2, .f32⟩
  | .hbm, ⟨1, _⟩ => ⟨S2x2, .f32⟩
  | .hbm, ⟨2, _⟩ => ⟨S2, .f32⟩
  | .hbm, ⟨3, _⟩ => ⟨S2x2, .f32⟩
  | .hbm, ⟨4, _⟩ => ⟨S3276800x2, .f32⟩
  | .hbm, ⟨5, _⟩ => ⟨S1x2, .f32⟩
  | .hbm, ⟨6, _⟩ => ⟨S3276800x2, .f32⟩
  | .hbm, ⟨7, _⟩ => ⟨S3276800x2, .f32⟩
  | _, _ => ⟨S3276800x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Host.lean ====
/- The host code read at an index: the arrays prepared before the region, and the result made from the region's array. -/
module

public import proofs.«01_k».proof.Proof.Gen.KernelIdeal.Frame
public import Idealize.ShloMosaic.Lib.Pointwise
public import Idealize.ShloMosaic.Lib.Claim
public import Idealize.ShloMosaic.Lib.WordCmp
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- On 32-bit words, the remainder of a row number below 8 by a divisor `d = 2`, corrected to the divisor's sign as a
    floored remainder is, is zero exactly for the even rows. -/
theorem parity_word (d : BitVec 32) (hd : d = 2#32) (s : Fin 8) :
    IntOp.cmpi .eq
      (Scalar.select
        (IntOp.andi
          (IntOp.cmpi .ne (IntOp.cmpi .slt (IntOp.remsi .host (BitVec.ofNat 32 s) d) 0#32) (IntOp.cmpi .slt d 0#32))
          (IntOp.cmpi .ne (IntOp.remsi .host (BitVec.ofNat 32 s) d) 0#32))
        (IntOp.addi (IntOp.remsi .host (BitVec.ofNat 32 s) d) d)
        (IntOp.remsi .host (BitVec.ofNat 32 s) d))
      0#32 = BitVec.ofBool (decide ((s : ℕ) % 2 = 0)) := by
  subst hd; revert s; decide +kernel

/-- A scalar selection on a decided condition is an `if`. -/
theorem select_ofBool {α : Type} (p : Prop) [Decidable p] (x y : α) :
    Scalar.select (BitVec.ofBool (decide p)) x y = if p then x else y := by
  by_cases h : p <;> simp [Scalar.select, h]

variable (m : (ℓ : Loc nD τ sig) → Buf (Elt Ideal) ℓ)

/-- The rearranged keys: row `r`, lane `l` holds component `r % 2` of key `r / 2 * 128 + l`. -/
theorem x_at (c : Dev nD) (r : Fin 51200) (l : Fin 128) :
    (V m c main_v2 : FVec Ideal S51200x128 .f32) (ix2 r l)
      = m ((c : Thread nD τ).loc main_arg0) (ix2 (⟨(r : ℕ) / 2 * 128 + l, by omega⟩ : Fin 3276800) (⟨(r : ℕ) % 2, by omega⟩ : Fin 2)) := by
  unfold V V0
  simp only [List.flatten_cons, List.flatten_nil, List.append_nil, List.cons_append, List.nil_append]
  after_results
  pointwise

/-- The row mask of the coefficients selects the even rows. -/
theorem mask_at (c : Dev nD) (s : Fin 8) :
    (V m c main_v7 : IVec S8x1 1) (ix2 s 0) = BitVec.ofBool (decide ((s : ℕ) % 2 = 0)) := by
  unfold V V0
  simp only [List.flatten_cons, List.flatten_nil, List.append_nil, List.cons_append, List.nil_append]
  after_results
  simp only [StableHlo.TRef.ofBuf_toBuf]
  simp only [StableHlo.TRef.ofBuf, StableHlo.TRef.toBuf, cast_eq]
  simp only [id_eq]
  pointwise
  exact parity_word _ (by decide) s

/-- The coefficient of the row itself: the diagonal of the weights. -/
theorem c1_at (c : Dev nD) (s : Fin 8) (l : Fin 128) :
    (V m c main_v14 : FVec Ideal S8x128 .f32) (ix2 s l) = if (s : ℕ) % 2 = 0 then m ((c : Thread nD τ).loc main_arg1) (ix2 0 0) else m ((c : Thread nD τ).loc main_arg1) (ix2 1 1) := by
  rw [← select_ofBool, ← mask_at m c s]
  unfold V V0
  simp only [List.flatten_cons, List.flatten_nil, List.append_nil, List.cons_append, List.nil_append]
  after_results
  simp only [StableHlo.TRef.ofBuf_toBuf]
  simp only [StableHlo.TRef.ofBuf, StableHlo.TRef.toBuf, cast_eq]
  pointwise

/-- The coefficient of the next row: the upper weight on even rows, zero on odd ones. -/
theorem c2e_at (c : Dev nD) (s : Fin 8) (l : Fin 128) :
    (V m c main_v18 : FVec Ideal S8x128 .f32) (ix2 s l) = if (s : ℕ) % 2 = 0 then m ((c : Thread nD τ).loc main_arg1) (ix2 0 1) else (0 : EReal) := by
  rw [← select_ofBool, ← mask_at m c s]
  unfold V V0
  simp only [List.flatten_cons, List.flatten_nil, List.append_nil, List.cons_append, List.nil_append]
  after_results
  simp only [StableHlo.TRef.ofBuf_toBuf]
  simp only [StableHlo.TRef.ofBuf, StableHlo.TRef.toBuf, cast_eq]
  pointwise

/-- The coefficient of the previous row: zero on even rows, the lower weight on odd ones. -/
theorem c2o_at (c : Dev nD) (s : Fin 8) (l : Fin 128) :
    (V m c main_v22 : FVec Ideal S8x128 .f32) (ix2 s l) = if (s : ℕ) % 2 = 0 then (0 : EReal) else m ((c : Thread nD τ).loc main_arg1) (ix2 1 0) := by
  rw [← select_ofBool, ← mask_at m c s]
  unfold V V0
  simp only [List.flatten_cons, List.flatten_nil, List.append_nil, List.cons_append, List.nil_append]
  after_results
  simp only [StableHlo.TRef.ofBuf_toBuf]
  simp only [StableHlo.TRef.ofBuf, StableHlo.TRef.toBuf, cast_eq]
  pointwise

/-- The offset: the bias of the row's component. -/
theorem c3_at (c : Dev nD) (s : Fin 8) (l : Fin 128) :
    (V m c main_v28 : FVec Ideal S8x128 .f32) (ix2 s l) = if (s : ℕ) % 2 = 0 then m ((c : Thread nD τ).loc main_arg2) (ix1 0) else m ((c : Thread nD τ).loc main_arg2) (ix1 1) := by
  rw [← select_ofBool, ← mask_at m c s]
  unfold V V0
  simp only [List.flatten_cons, List.flatten_nil, List.append_nil, List.cons_append, List.nil_append]
  after_results
  simp only [StableHlo.TRef.ofBuf_toBuf]
  simp only [StableHlo.TRef.ofBuf, StableHlo.TRef.toBuf, cast_eq]
  pointwise

/-- The result: entry `(n, o)` is what the region's array holds in row `n / 128 * 2 + o`, lane `n % 128`. -/
theorem tail_at (c : Dev nD) (n : Fin 3276800) (o : Fin 2) :
    (Pipeline.afterTail₀ cfgs (dats m) 0 (V0 m) [hostOps1] c main_v32 : FVec Ideal S3276800x2 .f32) (ix2 n o)
      = (dats m 0 c).arrAt 5 (cfgs 0).N (ix2 (⟨(n : ℕ) / 128 * 2 + o, by omega⟩ : Fin 51200) (⟨(n : ℕ) % 128, by omega⟩ : Fin 128)) := by
  unfold Pipeline.afterTail₀
  simp only [hostOps1, List.flatten_cons, List.flatten_nil, List.append_nil]
  after_results
  erw [Pipeline.withArrays_arr spec0 launch0.win.arr_inj c _ _ 5]
  pointwise

end Cert.KernelIdeal.Value

end
-- ==== Proof.Block.lean ====
/- What one block computes: the stored value read at an even and at an odd row. -/
module

public import proofs.«01_k».proof.Proof.Gen.KernelIdeal.Skeleton
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- An EVEN row of a block whose next-row coefficient is live and whose previous-row coefficient is zero there: the
    body stores the row times its coefficient, plus the next row times its own, plus the offset. What it multiplies
    by zero, whatever it is, adds nothing. -/
theorem pay_even (x : FVec Ideal S25600x128 .f32) (c1 c2e c2o c3 : FVec Ideal S8x128 .f32) (r : Fin 25600) (l : Fin 128)
    (hr : (r : ℕ) % 2 = 0) (h0 : c2o (ix2 (⟨(r : ℕ) % 8, by omega⟩ : Fin 8) l) = (0 : EReal)) :
    k0_pay1 (F := Ideal) x c1 c2e c2o c3 (ix2 r l)
      = (x (ix2 r l) * c1 (ix2 (⟨(r : ℕ) % 8, by omega⟩ : Fin 8) l)
          + x (ix2 (⟨(r : ℕ) + 1, by omega⟩ : Fin 25600) l) * c2e (ix2 (⟨(r : ℕ) % 8, by omega⟩ : Fin 8) l)
          + c3 (ix2 (⟨(r : ℕ) % 8, by omega⟩ : Fin 8) l) : EReal) := by
  pointwise [k0_pay1]
  rw [h0, mul_zero, add_zero, dif_pos (by omega)]
  have e : (r : ℕ) / 8 * 8 + (1 + (r : ℕ) % 8) = (r : ℕ) + 1 := by omega
  simp only [e]

/-- An ODD row of a block, the next-row coefficient zero there: the previous row takes the next row's place. -/
theorem pay_odd (x : FVec Ideal S25600x128 .f32) (c1 c2e c2o c3 : FVec Ideal S8x128 .f32) (r : Fin 25600) (l : Fin 128)
    (hr : (r : ℕ) % 2 = 1) (h0 : c2e (ix2 (⟨(r : ℕ) % 8, by omega⟩ : Fin 8) l) = (0 : EReal)) :
    k0_pay1 (F := Ideal) x c1 c2e c2o c3 (ix2 r l)
      = (x (ix2 r l) * c1 (ix2 (⟨(r : ℕ) % 8, by omega⟩ : Fin 8) l)
          + x (ix2 (⟨(r : ℕ) - 1, by omega⟩ : Fin 25600) l) * c2o (ix2 (⟨(r : ℕ) % 8, by omega⟩ : Fin 8) l)
          + c3 (ix2 (⟨(r : ℕ) % 8, by omega⟩ : Fin 8) l) : EReal) := by
  pointwise [k0_pay1]
  rw [h0, mul_zero, add_zero, dif_neg (show ¬ (r : ℕ) % 8 < 1 by omega)]
  have e : (r : ℕ) / 8 * 8 + ((r : ℕ) % 8 - 1) = (r : ℕ) - 1 := by omega
  simp only [e]

end Cert.KernelIdeal.Value

end
-- ==== Proof.Value.lean ====
/- The kernel's result is the linear map: block by block, then the region's array, then the result. -/
module

public import proofs.«01_k».proof.Proof.Gen.KernelIdeal.Frame
public import proofs.«01_k».proof.Proof.Host
public import proofs.«01_k».proof.Proof.Block
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The rearranged result at row `R`, lane `l`: component `R % 2` of the linear map at key `R / 2 * 128 + l`. -/
def lin (X : FVec Ideal S3276800x2 .f32) (W : FVec Ideal S2x2 .f32) (B : FVec Ideal S2 .f32) (R : Fin 51200) (l : Fin 128) : EReal :=
  X (ix2 (⟨(R : ℕ) / 2 * 128 + l, by omega⟩ : Fin 3276800) (0 : Fin 2)) * W (ix2 (⟨(R : ℕ) % 2, by omega⟩ : Fin 2) (0 : Fin 2))
    + X (ix2 (⟨(R : ℕ) / 2 * 128 + l, by omega⟩ : Fin 3276800) (1 : Fin 2)) * W (ix2 (⟨(R : ℕ) % 2, by omega⟩ : Fin 2) (1 : Fin 2))
    + B (ix1 (⟨(R : ℕ) % 2, by omega⟩ : Fin 2))

variable (m : (ℓ : Loc nD τ sig) → Buf (Elt Ideal) ℓ)

/-- The windows' block indices: the keys' and the result's move with the grid point, the coefficients' stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- There are two grid points. -/
theorem point_lt (t : Fin cfg0.N) : (t : ℕ) < 2 := lt_of_lt_of_eq t.isLt N_0

/-- Row `r` of point `t`'s block of the keys is row `t * 25600 + r` of the rearranged keys. -/
theorem iblk_x (c : Dev nD) (t : Fin cfg0.N) (r : Fin 25600) (l : Fin 128) (R : Fin 51200) (hR : (R : ℕ) = t * 25600 + r) :
    (iblk m c 0 t : FVec Ideal S25600x128 .f32) (ix2 r l) = (V m c main_v2 : FVec Ideal S51200x128 .f32) (ix2 R l) := by
  blk_ext [iblk, idx t]

/-- Each coefficient window's block is its whole array at every point. -/
theorem iblk_c1 (c : Dev nD) (t : Fin cfg0.N) (s : Fin 8) (l : Fin 128) :
    (iblk m c 1 t : FVec Ideal S8x128 .f32) (ix2 s l) = (V m c main_v14 : FVec Ideal S8x128 .f32) (ix2 s l) := by
  blk_ext [iblk, idx t]
theorem iblk_c2e (c : Dev nD) (t : Fin cfg0.N) (s : Fin 8) (l : Fin 128) :
    (iblk m c 2 t : FVec Ideal S8x128 .f32) (ix2 s l) = (V m c main_v18 : FVec Ideal S8x128 .f32) (ix2 s l) := by
  blk_ext [iblk, idx t]
theorem iblk_c2o (c : Dev nD) (t : Fin cfg0.N) (s : Fin 8) (l : Fin 128) :
    (iblk m c 3 t : FVec Ideal S8x128 .f32) (ix2 s l) = (V m c main_v22 : FVec Ideal S8x128 .f32) (ix2 s l) := by
  blk_ext [iblk, idx t]
theorem iblk_c3 (c : Dev nD) (t : Fin cfg0.N) (s : Fin 8) (l : Fin 128) :
    (iblk m c 4 t : FVec Ideal S8x128 .f32) (ix2 s l) = (V m c main_v28 : FVec Ideal S8x128 .f32) (ix2 s l) := by
  blk_ext [iblk, idx t]

/-- A key's component read at two spellings of its index. -/
theorem read_eq (X : FVec Ideal S3276800x2 .f32) (a a' : Fin 3276800) (b b' : Fin 2) (ha : (a : ℕ) = a') (hb : (b : ℕ) = b') :
    X (ix2 a b) = X (ix2 a' b') := by
  rw [Fin.ext ha, Fin.ext hb]

/-- What the body stores at row `r`, lane `l` of point `t`'s block is the linear map at row `t * 25600 + r`. -/
theorem point_at (c : Dev nD) (t : Fin cfg0.N) (r : Fin 25600) (l : Fin 128) (R : Fin 51200) (hR : (R : ℕ) = t * 25600 + r) :
    k0_pay1 (F := Ideal) (iblk m c 0 t) (iblk m c 1 t) (iblk m c 2 t) (iblk m c 3 t) (iblk m c 4 t) (ix2 r l)
      = lin (m ((c : Thread nD τ).loc main_arg0)) (m ((c : Thread nD τ).loc main_arg1)) (m ((c : Thread nD τ).loc main_arg2)) R l := by
  have ht := point_lt t
  unfold lin
  rcases Nat.mod_two_eq_zero_or_one (r : ℕ) with hr | hr
  · have hs : (r : ℕ) % 8 % 2 = 0 := by omega
    have hq : (⟨(R : ℕ) % 2, by omega⟩ : Fin 2) = 0 := Fin.ext (show (R : ℕ) % 2 = 0 by omega)
    rw [pay_even _ _ _ _ _ r l hr (by rw [iblk_c2o, c2o_at, if_pos hs]),
      iblk_x m c t r l R hR, iblk_x m c t ⟨(r : ℕ) + 1, by omega⟩ l ⟨(R : ℕ) + 1, by omega⟩ (by show (R : ℕ) + 1 = t * 25600 + ((r : ℕ) + 1); omega),
      iblk_c1, iblk_c2e, iblk_c3, c1_at, c2e_at, c3_at, if_pos hs, if_pos hs, if_pos hs, x_at, x_at, hq]
    refine Ideal.add_congr (Ideal.add_congr (Ideal.mul_congr (read_eq _ _ _ _ _ ?_ ?_) rfl) (Ideal.mul_congr (read_eq _ _ _ _ _ ?_ ?_) rfl)) rfl
    · rfl
    · rfl
    · show ((R : ℕ) + 1) / 2 * 128 + l = (R : ℕ) / 2 * 128 + l; omega
    · show ((R : ℕ) + 1) % 2 = 1; omega
  · have hs : ¬ (r : ℕ) % 8 % 2 = 0 := by omega
    have hq : (⟨(R : ℕ) % 2, by omega⟩ : Fin 2) = 1 := Fin.ext (show (R : ℕ) % 2 = 1 by omega)
    rw [pay_odd _ _ _ _ _ r l hr (by rw [iblk_c2e, c2e_at, if_neg hs]),
      iblk_x m c t r l R hR, iblk_x m c t ⟨(r : ℕ) - 1, by omega⟩ l ⟨(R : ℕ) - 1, by omega⟩ (by show (R : ℕ) - 1 = t * 25600 + ((r : ℕ) - 1); omega),
      iblk_c1, iblk_c2o, iblk_c3, c1_at, c2o_at, c3_at, if_neg hs, if_neg hs, if_neg hs, x_at, x_at, hq]
    refine Ideal.add_congr ((add_comm (G := EReal) _ _).trans (Ideal.add_congr (Ideal.mul_congr (read_eq _ _ _ _ _ ?_ ?_) rfl) (Ideal.mul_congr (read_eq _ _ _ _ _ ?_ ?_) rfl))) rfl
    · show ((R : ℕ) - 1) / 2 * 128 + l = (R : ℕ) / 2 * 128 + l; omega
    · show ((R : ℕ) - 1) % 2 = 0; omega
    · rfl
    · rfl

/-- THE REGION'S ARRAY after the run is the linear map at every row and lane. -/
theorem final (c : Dev nD) : (dats m 0 c).arrAt 5 (cfgs 0).N = fun j : S51200x128.Idx =>
    lin (m ((c : Thread nD τ).loc main_arg0)) (m ((c : Thread nD τ).loc main_arg1)) (m ((c : Thread nD τ).loc main_arg2)) (j 0) (j 1) := by
  refine (dats m 0 c).arrAt_eq_of_covers 5 _ (by decide +kernel) fun t _ y => ?_
  blk_simp
  rw [after0_5]; frame_out
  obtain ⟨r, l, rfl⟩ : ∃ (r : Fin 25600) (l : Fin 128), y = ix2 r l := ⟨y 0, y 1, eq_ix2 y⟩
  have e1 : (((cfg0.win 5).blk t).view.emb (ix2 r l)) 1 = l := by
    apply Fin.ext; blk_simp [idx t]
  refine (point_at m c t r l ((((cfg0.win 5).blk t).view.emb (ix2 r l)) 0) ?_).trans ?_
  · blk_simp [idx t]
  · rw [e1]

/-- Component `o` of the linear map at key `n`: the key times row `o` of the weights, plus the bias. -/
def linear (X : FVec Ideal S3276800x2 .f32) (W : FVec Ideal S2x2 .f32) (B : FVec Ideal S2 .f32) (n : Fin 3276800) (o : Fin 2) : EReal :=
  (∑ k : Fin 2, X (ix2 n k) * W (ix2 o k)) + B (ix1 o)

/-- THE RESULT at key `n`, component `o` is the linear map there. -/
theorem result_at (c : Dev nD) (n : Fin 3276800) (o : Fin 2) :
    (Pipeline.afterTail₀ cfgs (dats m) 0 (V0 m) [hostOps1] c main_v32 : FVec Ideal S3276800x2 .f32) (ix2 n o)
      = linear (m ((c : Thread nD τ).loc main_arg0)) (m ((c : Thread nD τ).loc main_arg1)) (m ((c : Thread nD τ).loc main_arg2)) n o := by
  rw [tail_at, final]
  unfold linear
  rw [Fin.sum_univ_two]
  show lin _ _ _ (⟨(n : ℕ) / 128 * 2 + o, by omega⟩ : Fin 51200) (⟨(n : ℕ) % 128, by omega⟩ : Fin 128) = _
  unfold lin
  have hn : (⟨((n : ℕ) / 128 * 2 + o) / 2 * 128 + (n : ℕ) % 128, by omega⟩ : Fin 3276800) = n :=
    Fin.ext (show ((n : ℕ) / 128 * 2 + o) / 2 * 128 + (n : ℕ) % 128 = n by omega)
  have ho : (⟨((n : ℕ) / 128 * 2 + o) % 2, by omega⟩ : Fin 2) = o :=
    Fin.ext (show ((n : ℕ) / 128 * 2 + o) % 2 = o by omega)
  simp only [hn, ho]

end Cert.KernelIdeal.Value

end
-- ==== Proof.Reference.lean ====
/- The reference's result read at an index. -/
module

public import proofs.«01_k».proof.Proof.Gen.ReferenceIdeal.Run
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The reference's result over its arguments: the keys times the transposed weights, plus the bias along the rows. -/
def ref (X : FVec Ideal S3276800x2 .f32) (W : FVec Ideal S2x2 .f32) (B : FVec Ideal S2 .f32) : FVec Ideal S3276800x2 .f32 :=
  addf (Host.dotGeneral dot_S3276800x2_S2x2_S3276800x2_1_0_0_1_n_n none X (transpose S2x2 [1, 0] W transposes_S2x2_S2x2_1_0))
    (broadcastInDim S3276800x2 ![0, 1] bcast_S1x2_S3276800x2_0_1 (broadcastInDim S1x2 ![1] bcast_S2_S1x2_1 B))

/-- The reference at key `n`, component `o`. -/
theorem ref_at (X : FVec Ideal S3276800x2 .f32) (W : FVec Ideal S2x2 .f32) (B : FVec Ideal S2 .f32) (n : Fin 3276800) (o : Fin 2) :
    ref X W B (ix2 n o) = ((∑ k : Fin 2, X (ix2 n k) * W (ix2 o k)) + B (ix1 o) : EReal) := by
  pointwise [ref]

end Cert.ReferenceIdeal.Value

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Value
public import proofs.«01_k».proof.Proof.Reference
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs and leaves its arguments unchanged; it declares no semaphore, so no counter ever moves. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run (F := Ideal) m g)

/-- Kernel and reference compute the same function over the extended reals. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g & Cert.KernelIdeal.Gen.unchanged m g
  · run_from Cert.ReferenceIdeal.Value.run m' g'
    funext i
    obtain ⟨n, o, rfl⟩ : ∃ (n : Fin 3276800) (o : Fin 2), i = ix2 n o := ⟨i 0, i 1, eq_ix2 i⟩
    exact (Cert.ReferenceIdeal.Value.ref_at _ _ _ n o).trans (Cert.KernelIdeal.Value.result_at m c n o).symm

/-- Everything that is claimed. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
